-- ==== Defs.lean ====
def Pre_Energies (m : (ℓ : Loc Cert.Energies.nD Cert.Energies.τ Cert.Energies.sig) → Buf (Elt Bits) ℓ) : Prop :=
  True

def Pre_EnergiesIdeal (m : (ℓ : Loc Cert.EnergiesIdeal.nD Cert.EnergiesIdeal.τ Cert.EnergiesIdeal.sig) → Buf (Elt Ideal) ℓ) : Prop :=
  True

def Pre_EnergiesReferenceIdeal (m : (ℓ : Loc Cert.EnergiesReferenceIdeal.nD Cert.EnergiesReferenceIdeal.τ Cert.EnergiesReferenceIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextReferenceIdeal (m : (ℓ : Loc Cert.ContextReferenceIdeal.nD Cert.ContextReferenceIdeal.τ Cert.ContextReferenceIdeal.sig) → Buf (Elt Ideal) ℓ) : Prop :=
  True

def quiescent_Energies [hEnergies : Cert.Energies.Facts] : Prop :=
  ∀ (m : (ℓ : Loc Cert.Energies.nD Cert.Energies.τ Cert.Energies.sig) → Buf (Elt Bits) ℓ) (g : Dev Cert.Energies.nD → PrngReg), Pre_Energies m →
    θ_run (Cert.Energies.defs (F := Bits)) (onTc (τ := Cert.Energies.τ) (Cert.Energies.main (F := Bits))) ⟨m, fun _ => 0, g⟩ (fun r => (∀ c : Dev Cert.Energies.nD,
      r.2.mem ((c.tc : Thread Cert.Energies.nD Cert.Energies.τ).loc Cert.Energies.main_arg0) = m ((c.tc : Thread Cert.Energies.nD Cert.Energies.τ).loc Cert.Energies.main_arg0)
      ∧ r.2.mem ((c.tc : Thread Cert.Energies.nD Cert.Energies.τ).loc Cert.Energies.main_arg1) = m ((c.tc : Thread Cert.Energies.nD Cert.Energies.τ).loc Cert.Energies.main_arg1)
      ∧ r.2.mem ((c.tc : Thread Cert.Energies.nD Cert.Energies.τ).loc Cert.Energies.main_arg2) = m ((c.tc : Thread Cert.Energies.nD Cert.Energies.τ).loc Cert.Energies.main_arg2))
      ∧ r.2.sem = fun _ => 0)

def quiescent_EnergiesIdeal [hEnergiesIdeal : Cert.EnergiesIdeal.Facts] : Prop :=
  ∀ (m : (ℓ : Loc Cert.EnergiesIdeal.nD Cert.EnergiesIdeal.τ Cert.EnergiesIdeal.sig) → Buf (Elt Ideal) ℓ) (g : Dev Cert.EnergiesIdeal.nD → PrngReg), Pre_EnergiesIdeal m →
    θ_run (Cert.EnergiesIdeal.defs (F := Ideal)) (onTc (τ := Cert.EnergiesIdeal.τ) (Cert.EnergiesIdeal.main (F := Ideal))) ⟨m, fun _ => 0, g⟩ (fun r => (∀ c : Dev Cert.EnergiesIdeal.nD,
      r.2.mem ((c.tc : Thread Cert.EnergiesIdeal.nD Cert.EnergiesIdeal.τ).loc Cert.EnergiesIdeal.main_arg0) = m ((c.tc : Thread Cert.EnergiesIdeal.nD Cert.EnergiesIdeal.τ).loc Cert.EnergiesIdeal.main_arg0)
      ∧ r.2.mem ((c.tc : Thread Cert.EnergiesIdeal.nD Cert.EnergiesIdeal.τ).loc Cert.EnergiesIdeal.main_arg1) = m ((c.tc : Thread Cert.EnergiesIdeal.nD Cert.EnergiesIdeal.τ).loc Cert.EnergiesIdeal.main_arg1)
      ∧ r.2.mem ((c.tc : Thread Cert.EnergiesIdeal.nD Cert.EnergiesIdeal.τ).loc Cert.EnergiesIdeal.main_arg2) = m ((c.tc : Thread Cert.EnergiesIdeal.nD Cert.EnergiesIdeal.τ).loc Cert.EnergiesIdeal.main_arg2))
      ∧ r.2.sem = fun _ => 0)

def quiescent_EnergiesReferenceIdeal [hEnergiesReferenceIdeal : Cert.EnergiesReferenceIdeal.Facts] : Prop :=
  ∀ (m : (ℓ : Loc Cert.EnergiesReferenceIdeal.nD Cert.EnergiesReferenceIdeal.τ Cert.EnergiesReferenceIdeal.sig) → Buf (Elt Ideal) ℓ) (g : Dev Cert.EnergiesReferenceIdeal.nD → PrngReg), Pre_EnergiesReferenceIdeal m →
    θ_run (Cert.EnergiesReferenceIdeal.defs (F := Ideal)) (onTc (τ := Cert.EnergiesReferenceIdeal.τ) (Cert.EnergiesReferenceIdeal.main (F := Ideal))) ⟨m, fun _ => 0, g⟩ (fun r => (∀ c : Dev Cert.EnergiesReferenceIdeal.nD,
      r.2.mem ((c.tc : Thread Cert.EnergiesReferenceIdeal.nD Cert.EnergiesReferenceIdeal.τ).loc Cert.EnergiesReferenceIdeal.main_arg0) = m ((c.tc : Thread Cert.EnergiesReferenceIdeal.nD Cert.EnergiesReferenceIdeal.τ).loc Cert.EnergiesReferenceIdeal.main_arg0)
      ∧ r.2.mem ((c.tc : Thread Cert.EnergiesReferenceIdeal.nD Cert.EnergiesReferenceIdeal.τ).loc Cert.EnergiesReferenceIdeal.main_arg1) = m ((c.tc : Thread Cert.EnergiesReferenceIdeal.nD Cert.EnergiesReferenceIdeal.τ).loc Cert.EnergiesReferenceIdeal.main_arg1)
      ∧ r.2.mem ((c.tc : Thread Cert.EnergiesReferenceIdeal.nD Cert.EnergiesReferenceIdeal.τ).loc Cert.EnergiesReferenceIdeal.main_arg2) = m ((c.tc : Thread Cert.EnergiesReferenceIdeal.nD Cert.EnergiesReferenceIdeal.τ).loc Cert.EnergiesReferenceIdeal.main_arg2))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1))
      ∧ r.2.sem = fun _ => 0)

def preserves_Energies_EnergiesIdeal : Prop :=
  True

def algebraic_EnergiesIdeal_EnergiesReferenceIdeal [hEnergiesIdeal : Cert.EnergiesIdeal.Facts] [hEnergiesReferenceIdeal : Cert.EnergiesReferenceIdeal.Facts] : Prop :=
  ∀ (m : (ℓ : Loc Cert.EnergiesIdeal.nD Cert.EnergiesIdeal.τ Cert.EnergiesIdeal.sig) → Buf (Elt Ideal) ℓ) (g : Dev Cert.EnergiesIdeal.nD → PrngReg)
    (m' : (ℓ : Loc Cert.EnergiesReferenceIdeal.nD Cert.EnergiesReferenceIdeal.τ Cert.EnergiesReferenceIdeal.sig) → Buf (Elt Ideal) ℓ) (g' : Dev Cert.EnergiesReferenceIdeal.nD → PrngReg), Pre_EnergiesIdeal m →
    (∀ c : Dev Cert.EnergiesIdeal.nD,
      m' ((c.tc : Thread Cert.EnergiesReferenceIdeal.nD Cert.EnergiesReferenceIdeal.τ).loc Cert.EnergiesReferenceIdeal.main_arg0) = m ((c.tc : Thread Cert.EnergiesIdeal.nD Cert.EnergiesIdeal.τ).loc Cert.EnergiesIdeal.main_arg0)
      ∧ m' ((c.tc : Thread Cert.EnergiesReferenceIdeal.nD Cert.EnergiesReferenceIdeal.τ).loc Cert.EnergiesReferenceIdeal.main_arg1) = m ((c.tc : Thread Cert.EnergiesIdeal.nD Cert.EnergiesIdeal.τ).loc Cert.EnergiesIdeal.main_arg1)
      ∧ m' ((c.tc : Thread Cert.EnergiesReferenceIdeal.nD Cert.EnergiesReferenceIdeal.τ).loc Cert.EnergiesReferenceIdeal.main_arg2) = m ((c.tc : Thread Cert.EnergiesIdeal.nD Cert.EnergiesIdeal.τ).loc Cert.EnergiesIdeal.main_arg2)) →
    ∃ (v0 : (c : Dev Cert.EnergiesIdeal.nD) → Buf (Elt Ideal) ((c.tc : Thread Cert.EnergiesIdeal.nD Cert.EnergiesIdeal.τ).loc Cert.EnergiesIdeal.main_v0_0)) (v1 : (c : Dev Cert.EnergiesIdeal.nD) → Buf (Elt Ideal) ((c.tc : Thread Cert.EnergiesIdeal.nD Cert.EnergiesIdeal.τ).loc Cert.EnergiesIdeal.main_v0_1)),
      θ_run (Cert.EnergiesIdeal.defs (F := Ideal)) (onTc (τ := Cert.EnergiesIdeal.τ) (Cert.EnergiesIdeal.main (F := Ideal))) ⟨m, fun _ => 0, g⟩ (fun r => ∀ c : Dev Cert.EnergiesIdeal.nD,
          r.2.mem ((c.tc : Thread Cert.EnergiesIdeal.nD Cert.EnergiesIdeal.τ).loc Cert.EnergiesIdeal.main_v0_0) = v0 c
          ∧ r.2.mem ((c.tc : Thread Cert.EnergiesIdeal.nD Cert.EnergiesIdeal.τ).loc Cert.EnergiesIdeal.main_v0_1) = v1 c
          ∧ r.2.mem ((c.tc : Thread Cert.EnergiesIdeal.nD Cert.EnergiesIdeal.τ).loc Cert.EnergiesIdeal.main_arg0) = m ((c.tc : Thread Cert.EnergiesIdeal.nD Cert.EnergiesIdeal.τ).loc Cert.EnergiesIdeal.main_arg0)
          ∧ r.2.mem ((c.tc : Thread Cert.EnergiesIdeal.nD Cert.EnergiesIdeal.τ).loc Cert.EnergiesIdeal.main_arg1) = m ((c.tc : Thread Cert.EnergiesIdeal.nD Cert.EnergiesIdeal.τ).loc Cert.EnergiesIdeal.main_arg1)
          ∧ r.2.mem ((c.tc : Thread Cert.EnergiesIdeal.nD Cert.EnergiesIdeal.τ).loc Cert.EnergiesIdeal.main_arg2) = m ((c.tc : Thread Cert.EnergiesIdeal.nD Cert.EnergiesIdeal.τ).loc Cert.EnergiesIdeal.main_arg2))
      ∧ θ_run (Cert.EnergiesReferenceIdeal.defs (F := Ideal)) (onTc (τ := Cert.EnergiesReferenceIdeal.τ) (Cert.EnergiesReferenceIdeal.main (F := Ideal))) ⟨m', fun _ => 0, g'⟩ (fun r => ∀ c : Dev Cert.EnergiesReferenceIdeal.nD,
          r.2.mem ((c.tc : Thread Cert.EnergiesReferenceIdeal.nD Cert.EnergiesReferenceIdeal.τ).loc Cert.EnergiesReferenceIdeal.main_v0_0) = v0 c
          ∧ r.2.mem ((c.tc : Thread Cert.EnergiesReferenceIdeal.nD Cert.EnergiesReferenceIdeal.τ).loc Cert.EnergiesReferenceIdeal.main_v0_1) = v1 c
          ∧ r.2.mem ((c.tc : Thread Cert.EnergiesReferenceIdeal.nD Cert.EnergiesReferenceIdeal.τ).loc Cert.EnergiesReferenceIdeal.main_arg0) = m' ((c.tc : Thread Cert.EnergiesReferenceIdeal.nD Cert.EnergiesReferenceIdeal.τ).loc Cert.EnergiesReferenceIdeal.main_arg0)
          ∧ r.2.mem ((c.tc : Thread Cert.EnergiesReferenceIdeal.nD Cert.EnergiesReferenceIdeal.τ).loc Cert.EnergiesReferenceIdeal.main_arg1) = m' ((c.tc : Thread Cert.EnergiesReferenceIdeal.nD Cert.EnergiesReferenceIdeal.τ).loc Cert.EnergiesReferenceIdeal.main_arg1)
          ∧ r.2.mem ((c.tc : Thread Cert.EnergiesReferenceIdeal.nD Cert.EnergiesReferenceIdeal.τ).loc Cert.EnergiesReferenceIdeal.main_arg2) = m' ((c.tc : Thread Cert.EnergiesReferenceIdeal.nD Cert.EnergiesReferenceIdeal.τ).loc Cert.EnergiesReferenceIdeal.main_arg2))

def preserves_Context_ContextIdeal : Prop :=
  True

def algebraic_ContextIdeal_ContextReferenceIdeal [hContextIdeal : Cert.ContextIdeal.Facts] [hContextReferenceIdeal : Cert.ContextReferenceIdeal.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)) →
    ∃ (v0 : (c : Dev Cert.ContextIdeal.nD) → Buf (Elt Ideal) ((c.tc : Thread Cert.ContextIdeal.nD Cert.ContextIdeal.τ).loc Cert.ContextIdeal.main_v0)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v0) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v1) = v0 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1))

def Claim : Prop :=
  ∃ (hEnergies : Cert.Energies.Facts) (hEnergiesIdeal : Cert.EnergiesIdeal.Facts) (hEnergiesReferenceIdeal : Cert.EnergiesReferenceIdeal.Facts) (hContext : Cert.Context.Facts) (hContextIdeal : Cert.ContextIdeal.Facts) (hContextReferenceIdeal : Cert.ContextReferenceIdeal.Facts),
    quiescent_Energies (hEnergies := hEnergies)
    ∧ quiescent_EnergiesIdeal (hEnergiesIdeal := hEnergiesIdeal)
    ∧ quiescent_EnergiesReferenceIdeal (hEnergiesReferenceIdeal := hEnergiesReferenceIdeal)
    ∧ quiescent_Context (hContext := hContext)
    ∧ quiescent_ContextIdeal (hContextIdeal := hContextIdeal)
    ∧ quiescent_ContextReferenceIdeal (hContextReferenceIdeal := hContextReferenceIdeal)
    ∧ preserves_Energies_EnergiesIdeal
    ∧ algebraic_EnergiesIdeal_EnergiesReferenceIdeal (hEnergiesIdeal := hEnergiesIdeal) (hEnergiesReferenceIdeal := hEnergiesReferenceIdeal)
    ∧ preserves_Context_ContextIdeal
    ∧ algebraic_ContextIdeal_ContextReferenceIdeal (hContextIdeal := hContextIdeal) (hContextReferenceIdeal := hContextReferenceIdeal)
-- ==== Energies.lean ====
abbrev S2x1536x16384 : Shape := ⟨3, ![2, 1536, 16384]⟩
abbrev S2x6144x16384 : Shape := ⟨3, ![2, 6144, 16384]⟩
abbrev S2x48x1536x128 : Shape := ⟨4, ![2, 48, 1536, 128]⟩
abbrev S1x256x16384 : Shape := ⟨3, ![1, 256, 16384]⟩
abbrev S1x2x768x128 : Shape := ⟨4, ![1, 2, 768, 128]⟩
abbrev S768x16384 : Shape := ⟨2, ![768, 16384]⟩
abbrev S2 : Shape := ⟨1, ![2]⟩
abbrev S1 : Shape := ⟨1, ![1]⟩
abbrev S_ : Shape := ⟨0, ![]⟩
abbrev S1x768x16384 : Shape := ⟨3, ![1, 768, 16384]⟩
abbrev S256x16384 : Shape := ⟨2, ![256, 16384]⟩
abbrev S768x256 : Shape := ⟨2, ![768, 256]⟩
abbrev S768x128 : Shape := ⟨2, ![768, 128]⟩
abbrev S1x1x768x128 : Shape := ⟨4, ![1, 1, 768, 128]⟩

abbrev nBuf : Space → Nat
  | .hbm => 5
  | .vmem => 8
  | .smem => 0
  | _ => 0

abbrev bufTy : (tb : Table) → Fin (tcTables nBuf tb) → BufTy
  | .hbm, ⟨0, _⟩ => ⟨S2x1536x16384, .fp8e4m3⟩
  | .hbm, ⟨1, _⟩ => ⟨S2x1536x16384, .fp8e4m3⟩
  | .hbm, ⟨2, _⟩ => ⟨S2x6144x16384, .fp8e4m3⟩
  | .hbm, ⟨3, _⟩ => ⟨S2x48x1536x128, .f32⟩
  | .hbm, ⟨4, _⟩ => ⟨S2x48x1536x128, .f32⟩
  | .local _ .vmem, ⟨0, _⟩ => ⟨S1x256x16384, .fp8e4m3⟩
  | .local _ .vmem, ⟨1, _⟩ => ⟨S1x256x16384, .fp8e4m3⟩
  | .local _ .vmem, ⟨2, _⟩ => ⟨S1x2x768x128, .f32⟩
  | .local _ .vmem, ⟨3, _⟩ => ⟨S1x2x768x128, .f32⟩
  | .local _ .vmem, ⟨4, _⟩ => ⟨S1x2x768x128, .f32⟩
  | .local _ .vmem, ⟨5, _⟩ => ⟨S1x2x768x128, .f32⟩
  | .local _ .vmem, ⟨6, _⟩ => ⟨S768x16384, .fp8e4m3⟩
  | .local _ .vmem, ⟨7, _⟩ => ⟨S768x16384, .fp8e4m3⟩
  | _, _ => ⟨S2x1536x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 24], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let arg1 : BitVec 32 := BitVec.ofNat 32 (i 1).val
  let c768_i32 : BitVec 32 := 768#32
  let v25 : BitVec 32 := Scalar.muli arg1 c768_i32
  let c0_i32_25 : BitVec 32 := 0#32
  ![arg0.toNat, v25.toNat, 0]
def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x256x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2x768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== EnergiesReferenceIdeal.lean ====
abbrev S2x1536x16384 : Shape := ⟨3, ![2, 1536, 16384]⟩
abbrev S2x6144x16384 : Shape := ⟨3, ![2, 6144, 16384]⟩
abbrev S2x48x1536x128 : Shape := ⟨4, ![2, 48, 1536, 128]⟩
abbrev S2x1536x6144 : Shape := ⟨3, ![2, 1536, 6144]⟩
abbrev S2x1536x48x128 : Shape := ⟨4, ![2, 1536, 48, 128]⟩

abbrev nBuf : Space → Nat
  | .hbm => 5
  | .vmem => 5
  | .smem => 0
  | _ => 0

abbrev bufTy : (tb : Table) → Fin (tcTables nBuf tb) → BufTy
  | .hbm, ⟨0, _⟩ => ⟨S2x1536x16384, .fp8e4m3⟩
  | .hbm, ⟨1, _⟩ => ⟨S2x1536x16384, .fp8e4m3⟩
  | .hbm, ⟨2, _⟩ => ⟨S2x6144x16384, .fp8e4m3⟩
  | .hbm, ⟨3, _⟩ => ⟨S2x48x1536x128, .f32⟩
  | .hbm, ⟨4, _⟩ => ⟨S2x48x1536x128, .f32⟩
  | .local _ .vmem, ⟨0, _⟩ => ⟨S2x1536x16384, .fp8e4m3⟩
  | .local _ .vmem, ⟨1, _⟩ => ⟨S2x1536x16384, .fp8e4m3⟩
  | .local _ .vmem, ⟨2, _⟩ => ⟨S2x6144x16384, .fp8e4m3⟩
  | .local _ .vmem, ⟨3, _⟩ => ⟨S2x48x1536x128, .f32⟩
  | .local _ .vmem, ⟨4, _⟩ => ⟨S2x48x1536x128, .f32⟩
  | _, _ => ⟨S2x1536x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x1536x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1536x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6144x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x48x1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x48x1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Context.lean ====
abbrev S2x1536x6144 : Shape := ⟨3, ![2, 1536, 6144]⟩
abbrev S2x6144x16384 : Shape := ⟨3, ![2, 6144, 16384]⟩
abbrev S2x1536x16384 : Shape := ⟨3, ![2, 1536, 16384]⟩
abbrev S1x1536x6144 : Shape := ⟨3, ![1, 1536, 6144]⟩
abbrev S1x6144x512 : Shape := ⟨3, ![1, 6144, 512]⟩
abbrev S1x1536x512 : Shape := ⟨3, ![1, 1536, 512]⟩
abbrev S1536x6144 : Shape := ⟨2, ![1536, 6144]⟩
abbrev S6144x512 : Shape := ⟨2, ![6144, 512]⟩
abbrev S1536x512 : Shape := ⟨2, ![1536, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x1536x6144, .bf16⟩
  | .hbm, ⟨1, _⟩ => ⟨S2x6144x16384, .bf16⟩
  | .hbm, ⟨2, _⟩ => ⟨S2x1536x16384, .bf16⟩
  | .local _ .vmem, ⟨0, _⟩ => ⟨S1x1536x6144, .bf16⟩
  | .local _ .vmem, ⟨1, _⟩ => ⟨S1x1536x6144, .bf16⟩
  | .local _ .vmem, ⟨2, _⟩ => ⟨S1x6144x512, .bf16⟩
  | .local _ .vmem, ⟨3, _⟩ => ⟨S1x6144x512, .bf16⟩
  | .local _ .vmem, ⟨4, _⟩ => ⟨S1x1536x512, .bf16⟩
  | .local _ .vmem, ⟨5, _⟩ => ⟨S1x1536x512, .bf16⟩
  | _, _ => ⟨S2x1536x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ContextReferenceIdeal.lean ====
abbrev S2x1536x6144 : Shape := ⟨3, ![2, 1536, 6144]⟩
abbrev S2x6144x16384 : Shape := ⟨3, ![2, 6144, 16384]⟩
abbrev S2x1536x16384 : Shape := ⟨3, ![2, 1536, 16384]⟩

abbrev nBuf : Space → Nat
  | .hbm => 4
  | .vmem => 0
  | .smem => 0
  | _ => 0

abbrev bufTy : (tb : Table) → Fin (tcTables nBuf tb) → BufTy
  | .hbm, ⟨0, _⟩ => ⟨S2x1536x6144, .bf16⟩
  | .hbm, ⟨1, _⟩ => ⟨S2x6144x16384, .bf16⟩
  | .hbm, ⟨2, _⟩ => ⟨S2x1536x16384, .f32⟩
  | .hbm, ⟨3, _⟩ => ⟨S2x1536x16384, .bf16⟩
  | _, _ => ⟨S2x1536x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.ContextValue.lean ====
/-
  The value of the context call at the ideal instance: the array that the blocked product leaves is the reference's
  batched product of the attention weights and the values.
-/
module

public import proofs.«01_k».proof.Defs
public import proofs.«01_k».proof.Proof.Gen.ContextIdeal.Value
public import proofs.«01_k».proof.Proof.Gen.ContextReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.ContextIdeal.RefValue

open Cert.ContextIdeal Cert.ContextIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The index maps, over the grid's points: point `t` works on batch `t / 32` and on column block `t % 32`. -/
theorem idx (t : Fin cfg0.N) : win0_0.index t = ![t.val / 32, 0, 0] ∧ win0_1.index t = ![t.val / 32, 0, t.val % 32]
    ∧ win0_2.index t = ![t.val / 32, 0, t.val % 32] :=
  (by decide +kernel : ∀ t : Fin grid0.N, win0_0.index t = ![t.val / 32, 0, 0] ∧ win0_1.index t = ![t.val / 32, 0, t.val % 32]
    ∧ win0_2.index t = ![t.val / 32, 0, t.val % 32]) t

/-- The batched product of two arrays as the reference's composed term: batch by batch, weights times values. -/
abbrev product (beta : FVec Ideal S2x1536x6144 .bf16) (v : FVec Ideal S2x6144x16384 .bf16) : FVec Ideal S2x1536x16384 .bf16 :=
  truncf .bf16 (Host.dotGeneral (F := Ideal) (φ₁ := .bf16) (φ₂ := .bf16) Cert.ContextReferenceIdeal.dot_S2x1536x6144_S2x6144x16384_S2x1536x16384_2_1_1_2_0_0 none beta v) Cert.ContextReferenceIdeal.Facts₀.bitsLt_bf16_f32

/-- The result array: the batched product of device `c`'s two arguments. -/
abbrev result (c : Dev nD) : Buf (Elt Ideal) ((c : Thread nD τ).loc main_v0) :=
  product (m ((c : Thread nD τ).loc main_arg0)) (m ((c : Thread nD τ).loc main_arg1))

/-- After the run the result array holds the batched product: every point writes its block of it, and the blocks tile it. -/
theorem final (c : Dev nD) : (dats m 0 c).arrAt 2 cfg0.N = result m c := by
  refine (dats m 0 c).arrAt_eq_of_covers 2 _ (by decide +kernel) fun t hf y => ?_
  blk_simp
  rw [after0_2]
  frame_out
  idx_vars y
  pointwise [k0_pay1, result, product]
  refine Fin.sum_fin_congr fun k => ?_
  have ht : t.val < 64 := lt_of_lt_of_eq t.isLt N_0
  have y0_lt : y0.val < 1 := y0.isLt
  refine Ideal.mul_congr ?_ ?_ <;> blk_ext [iblk, V, idx t]

end Cert.ContextIdeal.RefValue

end
-- ==== Proof.EnergiesValue.lean ====
/-
  The value of the energies call at the ideal instance: what its two scratch buffers hold at every grid point, what every
  point writes, and the two result arrays after the run as one function of the arguments.
-/
module

public import proofs.«01_k».proof.Defs
public import proofs.«01_k».proof.Proof.Gen.EnergiesIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.EnergiesIdeal.RefValue

open Cert.EnergiesIdeal Cert.EnergiesIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The index maps, over the grid's points: point `t` works on batch `t / 48`, on row half `(t / 24) % 2` and on the
    256-wide column block `t % 24`. -/
theorem idx (t : Fin cfg0.N) : win0_0.index t = ![t.val / 48, t.val % 24, 0] ∧ win0_1.index t = ![t.val / 48, t.val % 24, (t.val / 24) % 2, 0]
    ∧ win0_2.index t = ![t.val / 48, t.val % 24, (t.val / 24) % 2, 0] :=
  (by decide +kernel : ∀ t : Fin grid0.N, win0_0.index t = ![t.val / 48, t.val % 24, 0] ∧ win0_1.index t = ![t.val / 48, t.val % 24, (t.val / 24) % 2, 0]
    ∧ win0_2.index t = ![t.val / 48, t.val % 24, (t.val / 24) % 2, 0]) t

/-- Scratch 0 after point `n`. -/
abbrev SW0 (c : Dev nD) (n : ℕ) (h : n < cfg0.N) : Vec Ideal S768x16384 .fp8e4m3 := (outsAt0 m c n h).2.2.1

/-- Where the row block that point `t` copies starts: batch `t / 48`, row `768 ((t / 24) % 2)`. -/
theorem off (t : Fin cfg0.N) : k0_off1 (grid0.coords t) = ![t.val / 48, 768 * ((t.val / 24) % 2), 0] :=
  (by decide +kernel : ∀ t : Fin grid0.N, k0_off1 (grid0.coords t) = ![t.val / 48, 768 * ((t.val / 24) % 2), 0]) t

/-- The block of a [2, 1536, 16384] array that point `t` multiplies: 768 rows of batch `t / 48`. -/
def rows (x : Vec Ideal S2x1536x16384 .fp8e4m3) (t : Fin cfg0.N) : Vec Ideal S768x16384 .fp8e4m3 := fun i =>
  x (ix3 (⟨t.val / 48, by have := lt_of_lt_of_eq t.isLt N_0; omega⟩ : Fin 2)
    (⟨768 * ((t.val / 24) % 2) + (i 0).val, by have : (i 0).val < 768 := (i 0).isLt; omega⟩ : Fin 1536) (⟨(i 1).val, (i 1).isLt⟩ : Fin 16384))

/-- One store over the whole of a buffer leaves what it stored. -/
theorem canon_whole {s : Shape} {e : EltTy} (w : (Rect.whole s).shape.Idx → Elt Ideal e) :
    View.canon ([⟨Rect.whole s, w⟩] : List (View.Piece (Elt Ideal) s e)) = w := by
  funext i
  have h := View.canon_cons_emb (Rect.whole s) w [] i
  rwa [Rect.emb_whole_apply] at h

/-- A load of the whole of a buffer after one store over the whole of it reads what was stored. -/
theorem load_whole {sig : RefSig} {κ : Kind} {sp : Space} {s : Shape} {e : EltTy} (v : View sig κ sp s e) (w : (Rect.whole s).shape.Idx → Elt Ideal e)
    {off : Fin s.rank → ℕ} (inb : ∀ a, off a + s.size a ≤ s.size a) (h : ∀ a, off a = 0) :
    v.readCov ([⟨Rect.whole s, w⟩] : List (View.Piece (Elt Ideal) s e)) (Rect.unit off (no_index s.size) inb).toLoadRect = w := by
  rw [View.readCov_eq_canon']
  refine (funext fun j => congrFun (canon_whole w) _).trans ?_
  exact View.ld_unit_zero (S := s) (funext h) inb w

/-- What the copy of point `t`'s row block out of the first argument delivers. -/
theorem copied0 (t : Fin cfg0.N) (x : Vec Ideal S2x1536x16384 .fp8e4m3) (inb) (h) :
    ReadAs.same.apply (View.read (Elt Ideal) (((View.whole main_arg0).slice (Rect.unit (s := S2x1536x16384) (k0_off1 (grid0.coords t)) ![1, 768, 16384] inb)).reshape S768x16384 h) x)
      = rows x t := by
  funext i
  idx_vars i
  show x ((Rect.unit (s := S2x1536x16384) (k0_off1 (grid0.coords t)) ![1, 768, 16384] inb).emb (Shape.reshapeEquiv h (ix2 i0 i1 : S768x16384.Idx))) = _
  rw [show Shape.reshapeEquiv h (ix2 i0 i1 : S768x16384.Idx) = ix3 (⟨0, Nat.one_pos⟩ : Fin 1) i0 i1 from
    Shape.reshapeEquiv_eq_of_rowMajor h (by
      rw [Shape.rowMajor_val_two]
      refine (Shape.rowMajor_val_three (d := ![1, 768, 16384]) _).trans ?_
      show ((0 * 768 + i0.val) * 16384 + i1.val) = i0.val * 16384 + i1.val
      simp only [Nat.zero_mul, Nat.zero_add])]
  blk_ext [rows, off t]

/-- What the copy of point `t`'s row block out of the second argument delivers. -/
theorem copied1 (t : Fin cfg0.N) (x : Vec Ideal S2x1536x16384 .fp8e4m3) (inb) (h) :
    ReadAs.same.apply (View.read (Elt Ideal) (((View.whole main_arg1).slice (Rect.unit (s := S2x1536x16384) (k0_off1 (grid0.coords t)) ![1, 768, 16384] inb)).reshape S768x16384 h) x)
      = rows x t := by
  funext i
  idx_vars i
  show x ((Rect.unit (s := S2x1536x16384) (k0_off1 (grid0.coords t)) ![1, 768, 16384] inb).emb (Shape.reshapeEquiv h (ix2 i0 i1 : S768x16384.Idx))) = _
  rw [show Shape.reshapeEquiv h (ix2 i0 i1 : S768x16384.Idx) = ix3 (⟨0, Nat.one_pos⟩ : Fin 1) i0 i1 from
    Shape.reshapeEquiv_eq_of_rowMajor h (by
      rw [Shape.rowMajor_val_two]
      refine (Shape.rowMajor_val_three (d := ![1, 768, 16384]) _).trans ?_
      show ((0 * 768 + i0.val) * 16384 + i1.val) = i0.val * 16384 + i1.val
      simp only [Nat.zero_mul, Nat.zero_add])]
  blk_ext [rows, off t]

/-- The product of one row block and one column block, tile `y 1` of its two tiles of 128 columns. -/
def tiles (x : Vec Ideal S1x256x16384 .fp8e4m3) (s : Vec Ideal S768x16384 .fp8e4m3) (y : S1x2x768x128.Idx) : EReal :=
  ∑ d : Fin 16384, s (ix2 (⟨(y 2).val, (y 2).isLt⟩ : Fin 768) d)
    * x (ix3 (0 : Fin 1) (⟨128 * (y 1).val + (y 3).val, by have h1 : (y 1).val < 2 := (y 1).isLt; have h3 : (y 3).val < 128 := (y 3).isLt; omega⟩ : Fin 256) d)

/-- The two stores into a block of the first result, one per tile of 128 columns, leave the product. -/
theorem canonE (x : Vec Ideal S1x256x16384 .fp8e4m3) (s : Vec Ideal S768x16384 .fp8e4m3) (y : S1x2x768x128.Idx) :
    View.canon [(⟨Rect.unit (s := S1x2x768x128) ![0, 1, 0, 0] S1x1x768x128.size inb_S1x2x768x128_S1x1x768x128_0_1_0_0, k0_pay4 (F := Ideal) x s⟩ : View.Piece (Elt Ideal) S1x2x768x128 .f32),
      ⟨Rect.unit (s := S1x2x768x128) ![0, 0, 0, 0] S1x1x768x128.size inb_S1x2x768x128_S1x1x768x128_0_0_0_0, k0_pay3 (F := Ideal) x s⟩] y = tiles x s y := by
  canon_tiles z h
  all_goals
    idx_vars z
    pointwise [k0_pay4, k0_pay3, k0_pay2, k0_pay1, tiles]
  all_goals
    refine Fin.sum_fin_congr fun d => ?_
    refine Ideal.mul_congr (congrArg s ?_) (congrArg x ?_)
    · exact congrArg (fun a : Fin 768 => (ix2 a d : S768x16384.Idx)) (Fin.ext h2.symm)
    · refine congrArg (fun a : Fin 256 => (ix3 0 a d : S1x256x16384.Idx)) (Fin.ext ?_)
      show _ = 128 * (y 1).val + (y 3).val
      simp only []
      omega

/-- The two stores into a block of the second result leave the product. -/
theorem canonF (x : Vec Ideal S1x256x16384 .fp8e4m3) (s : Vec Ideal S768x16384 .fp8e4m3) (y : S1x2x768x128.Idx) :
    View.canon [(⟨Rect.unit (s := S1x2x768x128) ![0, 1, 0, 0] S1x1x768x128.size inb_S1x2x768x128_S1x1x768x128_0_1_0_0, k0_pay7 (F := Ideal) x s⟩ : View.Piece (Elt Ideal) S1x2x768x128 .f32),
      ⟨Rect.unit (s := S1x2x768x128) ![0, 0, 0, 0] S1x1x768x128.size inb_S1x2x768x128_S1x1x768x128_0_0_0_0, k0_pay6 (F := Ideal) x s⟩] y = tiles x s y :=
  canonE x s y

/-- Scratch 1 after point `n`. -/
abbrev SW1 (c : Dev nD) (n : ℕ) (h : n < cfg0.N) : Vec Ideal S768x16384 .fp8e4m3 := (outsAt0 m c n h).2.2.2

/-- The first point of a run of 24 copies its row block of the first argument into scratch 0. -/
theorem sw0_write (c : Dev nD) (t : Fin cfg0.N) (ht : t.val % 24 = 0) :
    SW0 m c t.val t.isLt = rows (m ((c : Thread nD τ).loc main_arg0)) t := by
  show (outsAt0 m c t.val t.isLt).2.2.1 = _
  rw [outsAt0_A m c t ht]
  frame_out
  rw [copied0, canon_whole]

/-- The first point of a run of 24 copies its row block of the second argument into scratch 1. -/
theorem sw1_write (c : Dev nD) (t : Fin cfg0.N) (ht : t.val % 24 = 0) :
    SW1 m c t.val t.isLt = rows (m ((c : Thread nD τ).loc main_arg1)) t := by
  show (outsAt0 m c t.val t.isLt).2.2.2 = _
  rw [outsAt0_A m c t ht]
  frame_out
  rw [copied1, canon_whole]

/-- Every other point of the run leaves scratch 0 as the point before left it. -/
theorem sw0_hold (c : Dev nD) (t : Fin cfg0.N) (ht : ¬t.val % 24 = 0) :
    SW0 m c t.val t.isLt = SW0 m c (t.val - 1) (Nat.lt_of_le_of_lt (Nat.sub_le _ _) t.isLt) := by
  show (outsAt0 m c t.val t.isLt).2.2.1 = _
  rw [outsAt0_B m c t ht]
  rfl

/-- Every other point of the run leaves scratch 1 as the point before left it. -/
theorem sw1_hold (c : Dev nD) (t : Fin cfg0.N) (ht : ¬t.val % 24 = 0) :
    SW1 m c t.val t.isLt = SW1 m c (t.val - 1) (Nat.lt_of_le_of_lt (Nat.sub_le _ _) t.isLt) := by
  show (outsAt0 m c t.val t.isLt).2.2.2 = _
  rw [outsAt0_B m c t ht]
  rfl

/-- Two points of one run of 24 multiply the same row block. -/
theorem rows_same (x : Vec Ideal S2x1536x16384 .fp8e4m3) (t u : Fin cfg0.N) (h : t.val / 24 = u.val / 24) : rows x t = rows x u := by
  funext i
  have h' : t.val / 48 = u.val / 48 := by omega
  simp only [rows, h, h']

/-- At every point scratch 0 holds that point's row block of the first argument. -/
theorem sw0 (c : Dev nD) (t : Fin cfg0.N) : SW0 m c t.val t.isLt = rows (m ((c : Thread nD τ).loc main_arg0)) t :=
  (Pipeline.eq_of_write_hold (fun n h => SW0 m c n h) 24 (rows (m ((c : Thread nD τ).loc main_arg0))) (sw0_write m c) (sw0_hold m c) t).trans
    (rows_same _ _ _ (by show 24 * (t.val / 24) / 24 = _; omega))

/-- At every point scratch 1 holds that point's row block of the second argument. -/
theorem sw1 (c : Dev nD) (t : Fin cfg0.N) : SW1 m c t.val t.isLt = rows (m ((c : Thread nD τ).loc main_arg1)) t :=
  (Pipeline.eq_of_write_hold (fun n h => SW1 m c n h) 24 (rows (m ((c : Thread nD τ).loc main_arg1))) (sw1_write m c) (sw1_hold m c) t).trans
    (rows_same _ _ _ (by show 24 * (t.val / 24) / 24 = _; omega))

/-- What point `t` leaves in the block of the first result. -/
theorem out1 (c : Dev nD) (t : Fin cfg0.N) (y : S1x2x768x128.Idx) :
    (outsAt0 m c t.val t.isLt).1 y = tiles (iblk m c 0 t) (rows (m ((c : Thread nD τ).loc main_arg0)) t) y := by
  by_cases h0 : t.val % 24 = 0
  · rw [outsAt0_A m c t h0]
    frame_out
    rw [copied0, load_whole (h := by decide)]
    exact canonE _ _ y
  · rw [← sw0 m c t, sw0_hold m c t h0, outsAt0_B m c t h0]
    frame_out
    simp only [read_unread_whole]
    exact canonE _ _ y

/-- What point `t` leaves in the block of the second result. -/
theorem out2 (c : Dev nD) (t : Fin cfg0.N) (y : S1x2x768x128.Idx) :
    (outsAt0 m c t.val t.isLt).2.1 y = tiles (iblk m c 0 t) (rows (m ((c : Thread nD τ).loc main_arg1)) t) y := by
  by_cases h0 : t.val % 24 = 0
  · rw [outsAt0_A m c t h0]
    frame_out
    rw [copied1, load_whole (h := by decide)]
    exact canonF _ _ y
  · rw [← sw1 m c t, sw1_hold m c t h0, outsAt0_B m c t h0]
    frame_out
    simp only [read_unread_whole]
    exact canonF _ _ y

/-- The whole of a result: entry `(b, w, i, l)` is the product of row `i` of `q` and row `128 w + l` of `k`, in batch `b`. -/
def energy (q : Vec Ideal S2x1536x16384 .fp8e4m3) (k : Vec Ideal S2x6144x16384 .fp8e4m3) : Vec Ideal S2x48x1536x128 .f32 := fun y =>
  ∑ d : Fin 16384, q (ix3 (⟨(y 0).val, (y 0).isLt⟩ : Fin 2) (⟨(y 2).val, (y 2).isLt⟩ : Fin 1536) d)
    * k (ix3 (⟨(y 0).val, (y 0).isLt⟩ : Fin 2)
        (⟨(y 1).val * 128 + (y 3).val, by have h1 : (y 1).val < 48 := (y 1).isLt; have h3 : (y 3).val < 128 := (y 3).isLt; omega⟩ : Fin 6144) d)

/-- After the run the first result array is the product of the first and the third argument: the points' blocks tile it. -/
theorem final1 (c : Dev nD) : (dats m 0 c).arrAt 1 cfg0.N = energy (m ((c : Thread nD τ).loc main_arg0)) (m ((c : Thread nD τ).loc main_arg2)) := by
  refine (dats m 0 c).arrAt_eq_of_covers 1 _ (by decide +kernel) fun t hf y => ?_
  blk_simp
  rw [after0_1]
  refine (out1 m c t _).trans ?_
  idx_vars y
  unfold tiles energy rows
  refine Fin.sum_fin_congr fun k => ?_
  refine Ideal.mul_congr ?_ ?_ <;> blk_ext [iblk, V, idx t]

/-- After the run the second result array is the product of the second and the third argument. -/
theorem final2 (c : Dev nD) : (dats m 0 c).arrAt 2 cfg0.N = energy (m ((c : Thread nD τ).loc main_arg1)) (m ((c : Thread nD τ).loc main_arg2)) := by
  refine (dats m 0 c).arrAt_eq_of_covers 2 _ (by decide +kernel) fun t hf y => ?_
  blk_simp
  rw [after0_2]
  refine (out2 m c t _).trans ?_
  idx_vars y
  unfold tiles energy rows
  refine Fin.sum_fin_congr fun k => ?_
  refine Ideal.mul_congr ?_ ?_ <;> blk_ext [iblk, V, idx t]

end Cert.EnergiesIdeal.RefValue

end
-- ==== Proof.EnergiesReferenceValue.lean ====
/-
  The value of the energies reference at the ideal instance.
-/
module

public import proofs.«01_k».proof.Defs
public import proofs.«01_k».proof.Proof.Gen.EnergiesReferenceIdeal.Value
public import Idealize.ShloMosaic.Lib.Pipeline.ValueKit
public import Idealize.ShloMosaic.Lib.Pointwise
public import Idealize.ShloMosaic.Lib.Claim

@[expose] public section

set_option maxRecDepth 16384

noncomputable section

namespace Cert.EnergiesReferenceIdeal.RefValue

open Cert.EnergiesReferenceIdeal Cert.EnergiesReferenceIdeal.Gen Cert.EnergiesReferenceIdeal.Value Idealize.ShloMosaic Idealize.ShloMosaic.TcCoe Idealize.SL.Sem

/-- The whole of a result: entry `(b, w, i, l)` is the product of row `i` of `q` and row `128 w + l` of `k`, in batch `b`. -/
def energy (q : Vec Ideal S2x1536x16384 .fp8e4m3) (k : Vec Ideal S2x6144x16384 .fp8e4m3) : Vec Ideal S2x48x1536x128 .f32 := fun y =>
  ∑ d : Fin 16384, q (ix3 (⟨(y 0).val, (y 0).isLt⟩ : Fin 2) (⟨(y 2).val, (y 2).isLt⟩ : Fin 1536) d)
    * k (ix3 (⟨(y 0).val, (y 0).isLt⟩ : Fin 2)
        (⟨(y 1).val * 128 + (y 3).val, by have h1 : (y 1).val < 48 := (y 1).isLt; have h3 : (y 3).val < 128 := (y 3).isLt; omega⟩ : Fin 6144) d)

/-- The reference's first result: the batched product, cut into tiles of 128 columns. -/
theorem result_e (q : FVec Ideal S2x1536x16384 .fp8e4m3) (k : FVec Ideal S2x6144x16384 .fp8e4m3) : k0_pay1 (F := Ideal) q k = energy q k := by
  funext y
  idx_vars y
  pointwise [k0_pay1, energy]

/-- The reference's second result is the same function of its operands. -/
theorem result_f (q : FVec Ideal S2x1536x16384 .fp8e4m3) (k : FVec Ideal S2x6144x16384 .fp8e4m3) : k0_pay2 (F := Ideal) q k = energy q k :=
  result_e q k

end Cert.EnergiesReferenceIdeal.RefValue

end
-- ==== Proof.lean ====
module

public import proofs.«01_k».proof.Defs
public import proofs.«01_k».proof.Proof.ContextValue
public import proofs.«01_k».proof.Proof.EnergiesValue
public import proofs.«01_k».proof.Proof.EnergiesReferenceValue
public import proofs.«01_k».proof.Proof.Gen.Energies
public import proofs.«01_k».proof.Proof.Gen.Energies.Skeleton
public import proofs.«01_k».proof.Proof.Gen.Energies.Launch
public import proofs.«01_k».proof.Proof.Gen.Energies.Points
public import proofs.«01_k».proof.Proof.Gen.Energies.Frame
public import proofs.«01_k».proof.Proof.Gen.EnergiesIdeal
public import proofs.«01_k».proof.Proof.Gen.EnergiesIdeal.Skeleton
public import proofs.«01_k».proof.Proof.Gen.EnergiesIdeal.Launch
public import proofs.«01_k».proof.Proof.Gen.EnergiesIdeal.Points
public import proofs.«01_k».proof.Proof.Gen.EnergiesIdeal.Frame
public import proofs.«01_k».proof.Proof.Gen.EnergiesReferenceIdeal
public import proofs.«01_k».proof.Proof.Gen.EnergiesReferenceIdeal.Skeleton
public import proofs.«01_k».proof.Proof.Gen.EnergiesReferenceIdeal.Launch
public import proofs.«01_k».proof.Proof.Gen.EnergiesReferenceIdeal.Points
public import proofs.«01_k».proof.Proof.Gen.EnergiesReferenceIdeal.Frame
public import proofs.«01_k».proof.Proof.Gen.Context
public import proofs.«01_k».proof.Proof.Gen.Context.Skeleton
public import proofs.«01_k».proof.Proof.Gen.Context.Launch
public import proofs.«01_k».proof.Proof.Gen.Context.Points
public import proofs.«01_k».proof.Proof.Gen.Context.Frame
public import proofs.«01_k».proof.Proof.Gen.ContextIdeal
public import proofs.«01_k».proof.Proof.Gen.ContextIdeal.Skeleton
public import proofs.«01_k».proof.Proof.Gen.ContextIdeal.Launch
public import proofs.«01_k».proof.Proof.Gen.ContextIdeal.Points
public import proofs.«01_k».proof.Proof.Gen.ContextIdeal.Frame
public import proofs.«01_k».proof.Proof.Gen.ContextReferenceIdeal
public import proofs.«01_k».proof.Proof.Gen.EnergiesIdeal.Value
public import proofs.«01_k».proof.Proof.Gen.EnergiesReferenceIdeal.Value
public import proofs.«01_k».proof.Proof.Gen.ContextIdeal.Value
public import proofs.«01_k».proof.Proof.Gen.ContextReferenceIdeal.Run
public import Idealize.ShloMosaic.Adequacy
public import Idealize.ShloMosaic.Init

@[expose] public section

noncomputable section

namespace Cert.Proof

open Idealize.ShloMosaic Idealize.SL.Sem Cert.Energies

/-- The energies call over the extended reals: kernel and reference end with the same two arrays, the tiled products of
    `q` with `k` and of `qc` with `k`. -/
theorem energies : Cert.algebraic_EnergiesIdeal_EnergiesReferenceIdeal (hEnergiesIdeal := Cert.EnergiesIdeal.Gen.facts)
    (hEnergiesReferenceIdeal := Cert.EnergiesReferenceIdeal.Gen.facts) := by
  intro m g m' g' _ hin
  refine ⟨fun c => Cert.EnergiesReferenceIdeal.RefValue.energy (m ((c.tc : Thread Cert.EnergiesIdeal.nD Cert.EnergiesIdeal.τ).loc Cert.EnergiesIdeal.main_arg0))
      (m ((c.tc : Thread Cert.EnergiesIdeal.nD Cert.EnergiesIdeal.τ).loc Cert.EnergiesIdeal.main_arg2)),
    fun c => Cert.EnergiesReferenceIdeal.RefValue.energy (m ((c.tc : Thread Cert.EnergiesIdeal.nD Cert.EnergiesIdeal.τ).loc Cert.EnergiesIdeal.main_arg1))
      (m ((c.tc : Thread Cert.EnergiesIdeal.nD Cert.EnergiesIdeal.τ).loc Cert.EnergiesIdeal.main_arg2)), ?_, ?_⟩
  · refine (θ_run _ _ _).mono (fun r h c => ?_) (Cert.EnergiesIdeal.Value.run_blocks (F := Ideal) m g)
    obtain ⟨h1, h2, h3⟩ := h c
    exact ⟨h1.trans (Cert.EnergiesIdeal.RefValue.final1 m c), h2.trans (Cert.EnergiesIdeal.RefValue.final2 m c), h3⟩
  · refine (θ_run _ _ _).mono (fun r h c => ?_) (Cert.EnergiesReferenceIdeal.Value.run (F := Ideal) m' g')
    obtain ⟨h1, h2, h3⟩ := h c
    obtain ⟨e0, e1, e2⟩ := hin c
    refine ⟨?_, ?_, h3⟩
    · exact (h1.trans (Cert.EnergiesReferenceIdeal.RefValue.result_e _ _)).trans (congrArg₂ Cert.EnergiesReferenceIdeal.RefValue.energy e0 e2)
    · exact (h2.trans (Cert.EnergiesReferenceIdeal.RefValue.result_f _ _)).trans (congrArg₂ Cert.EnergiesReferenceIdeal.RefValue.energy e1 e2)

/-- The context call over the extended reals: kernel and reference end with the same array, the product of the weights
    and the values. -/
theorem context : Cert.algebraic_ContextIdeal_ContextReferenceIdeal (hContextIdeal := Cert.ContextIdeal.Gen.facts)
    (hContextReferenceIdeal := Cert.ContextReferenceIdeal.Gen.facts) := by
  intro m g m' g' _ hin
  refine ⟨fun c => Cert.ContextIdeal.RefValue.result m c, ?_, ?_⟩
  · refine (θ_run _ _ _).mono (fun r h c => ?_) (Cert.ContextIdeal.Value.run_blocks (F := Ideal) m g)
    obtain ⟨h1, h3⟩ := h c
    exact ⟨h1.trans (Cert.ContextIdeal.RefValue.final m c), h3⟩
  · refine (θ_run _ _ _).mono (fun r h c => ?_) (Cert.ContextReferenceIdeal.Value.run (F := Ideal) m' g')
    obtain ⟨h1, h3⟩ := h c
    obtain ⟨e0, e1⟩ := hin c
    exact ⟨h1.trans (congrArg₂ Cert.ContextIdeal.RefValue.product e0 e1), h3⟩

/-- Every claim of the certificate: the frames, the two `preserves` and the two value claims. -/
theorem claim : Cert.Claim :=
  ⟨Cert.Energies.Gen.facts, Cert.EnergiesIdeal.Gen.facts, Cert.EnergiesReferenceIdeal.Gen.facts, Cert.Context.Gen.facts, Cert.ContextIdeal.Gen.facts,
    Cert.ContextReferenceIdeal.Gen.facts,
    fun m ρ _ => Cert.Energies.Gen.frame m ρ,
    fun m ρ _ => Cert.EnergiesIdeal.Gen.frame m ρ,
    fun m ρ _ => Cert.EnergiesReferenceIdeal.Gen.frame m ρ,
    fun m ρ _ => Cert.Context.Gen.frame m ρ,
    fun m ρ _ => Cert.ContextIdeal.Gen.frame m ρ,
    fun m ρ _ => (θ_run Cert.ContextReferenceIdeal.defs _ _).mono
      (fun r h => ⟨fun c => ⟨(h c).2.1, (h c).2.2⟩, Idealize.ShloMosaic.sem_eq_zero_of_no_sems (by decide) r.2⟩)
      (Cert.ContextReferenceIdeal.Value.run (F := Ideal) m ρ),
    trivial, energies, trivial, context⟩

end Cert.Proof

end
